-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_apart : Cert.Pre_apart.Facts),
    quiescent_Kernel (hKernel := hKernel)
    ∧ quiescent_KernelIdeal (hKernelIdeal := hKernelIdeal)
    ∧ quiescent_KernelIdeal_pre_apart (hKernelIdeal := hKernelIdeal) (hPre_apart := hPre_apart)
    ∧ quiescent_ReferenceIdeal (hReferenceIdeal := hReferenceIdeal)
    ∧ quiescent_ReferenceIdeal_pre_apart (hReferenceIdeal := hReferenceIdeal) (hPre_apart := hPre_apart)
    ∧ preserves_Kernel_KernelIdeal
    ∧ algebraic_KernelIdeal_ReferenceIdeal_pre_apart (hKernelIdeal := hKernelIdeal) (hReferenceIdeal := hReferenceIdeal) (hPre_apart := hPre_apart)
-- ==== Pre_apart.lean ====
abbrev S512x128x3 : Shape := ⟨3, ![512, 128, 3]⟩
abbrev S512 : Shape := ⟨1, ![512]⟩
abbrev S_ : Shape := ⟨0, ![]⟩
abbrev S1x512x128x3 : Shape := ⟨4, ![1, 512, 128, 3]⟩
abbrev S512x1x128x3 : Shape := ⟨4, ![512, 1, 128, 3]⟩
abbrev S512x512x128x3 : Shape := ⟨4, ![512, 512, 128, 3]⟩
abbrev S512x512x128 : Shape := ⟨3, ![512, 512, 128]⟩

class Facts : Prop where
  bcast_S512x128x3_S1x512x128x3_1_2_3 : S512x128x3.BroadcastsInDim S1x512x128x3 (![1, 2, 3] : Fin 3 → Fin S1x512x128x3.rank)
  bcast_S512x128x3_S512x1x128x3_0_2_3 : S512x128x3.BroadcastsInDim S512x1x128x3 (![0, 2, 3] : Fin 3 → Fin S512x1x128x3.rank)
  bcast_S1x512x128x3_S512x512x128x3_0_1_2_3 : S1x512x128x3.BroadcastsInDim S512x512x128x3 (![0, 1, 2, 3] : Fin 4 → Fin S512x512x128x3.rank)
  bcast_S512x1x128x3_S512x512x128x3_0_1_2_3 : S512x1x128x3.BroadcastsInDim S512x512x128x3 (![0, 1, 2, 3] : Fin 4 → Fin S512x512x128x3.rank)
  bcast_S_S512x128x3 : S_.BroadcastsInDim S512x128x3 (![] : Fin 0 → Fin S512x128x3.rank)
  reducesTo_S512x512x128x3_S512x512x128_d3 : S512x512x128x3.ReducesTo [3] S512x512x128
  h_S_ : 0 < S_.numel
  bcast_S_S512x512x128 : S_.BroadcastsInDim S512x512x128 (![] : Fin 0 → Fin S512x512x128.rank)

variable [Facts]

def fn {F : FTy → Type} [FloatOps F] (main_arg0 : FVec F S512x128x3 .f32) (main_arg1 : FVec F S512x128x3 .f32) (main_arg2 : FVec F S512 .f32) (main_arg3 : FVec F S_ .f32) : IVec S512x128x3 1 × IVec S512x128x3 1 × IVec S512x512x128 1 :=
  let main_v0 : FVec F S1x512x128x3 .f32 := broadcastInDim S1x512x128x3 ![1, 2, 3] bcast_S512x128x3_S1x512x128x3_1_2_3 main_arg1
  let main_v1 : FVec F S512x1x128x3 .f32 := broadcastInDim S512x1x128x3 ![0, 2, 3] bcast_S512x128x3_S512x1x128x3_0_2_3 main_arg0
  let main_v2 : FVec F S512x512x128x3 .f32 := broadcastInDim S512x512x128x3 ![0, 1, 2, 3] bcast_S1x512x128x3_S512x512x128x3_0_1_2_3 main_v0
  let main_v3 : FVec F S512x512x128x3 .f32 := broadcastInDim S512x512x128x3 ![0, 1, 2, 3] bcast_S512x1x128x3_S512x512x128x3_0_1_2_3 main_v1
  let main_v4 : FVec F S512x512x128x3 .f32 := subf main_v2 main_v3
  let main_v5 : FVec F S512x128x3 .f32 := Host.absf main_arg0
  let main_cst : FVec F S_ .f32 := constant S_ .f32 0x7F800000#32
  let main_v6 : FVec F S512x128x3 .f32 := broadcastInDim S512x128x3 ![] bcast_S_S512x128x3 main_cst
  let main_v7 : IVec S512x128x3 1 := cmpf .olt main_v5 main_v6
  let main_v8 : FVec F S512x128x3 .f32 := Host.absf main_arg1
  let main_cst_0 : FVec F S_ .f32 := constant S_ .f32 0x7F800000#32
  let main_v9 : FVec F S512x128x3 .f32 := broadcastInDim S512x128x3 ![] bcast_S_S512x128x3 main_cst_0
  let main_v10 : IVec S512x128x3 1 := cmpf .olt main_v8 main_v9
  let main_v11 : FVec F S512x512x128x3 .f32 := mulf main_v4 main_v4
  let main_cst_1 : FVec F S_ .f32 := constant S_ .f32 0x00000000#32
  let main_v12 : FVec F S512x512x128 .f32 := (fun x v => Host.reduceAdd x v reducesTo_S512x512x128x3_S512x512x128_d3 h_S_) main_v11 main_cst_1
  let main_cst_2 : FVec F S_ .f32 := constant S_ .f32 0x0DA20000#32
  let main_v13 : FVec F S512x512x128 .f32 := broadcastInDim S512x512x128 ![] bcast_S_S512x512x128 main_cst_2
  let main_v14 : IVec S512x512x128 1 := cmpf .oge main_v12 main_v13
  (main_v7, main_v10, main_v14)
-- ==== Kernel.lean ====
abbrev S512x128x3 : Shape := ⟨3, ![512, 128, 3]⟩
abbrev S512 : Shape := ⟨1, ![512]⟩
abbrev S_ : Shape := ⟨0, ![]⟩
abbrev S128x3x512 : Shape := ⟨3, ![128, 3, 512]⟩
abbrev S128x512 : Shape := ⟨2, ![128, 512]⟩
abbrev S128x1x512 : Shape := ⟨3, ![128, 1, 512]⟩
abbrev S128x8x512 : Shape := ⟨3, ![128, 8, 512]⟩
abbrev S1x1 : Shape := ⟨2, ![1, 1]⟩
abbrev S512x1 : Shape := ⟨2, ![512, 1]⟩
abbrev S512x128 : Shape := ⟨2, ![512, 128]⟩
abbrev S1x8x512 : Shape := ⟨3, ![1, 8, 512]⟩
abbrev S8x512 : Shape := ⟨2, ![8, 512]⟩
abbrev S512x512 : Shape := ⟨2, ![512, 512]⟩

abbrev nBuf : Space → Nat
  | .hbm => 29
  | .vmem => 4
  | .smem => 1
  | _ => 0

abbrev bufTy : (tb : Table) → Fin (tcTables nBuf tb) → BufTy
  | .hbm, ⟨0, _⟩ => ⟨S512x128x3, .f32⟩
  | .hbm, ⟨1, _⟩ => ⟨S512x128x3, .f32⟩
  | .hbm, ⟨2, _⟩ => ⟨S512, .f32⟩
  | .hbm, ⟨3, _⟩ => ⟨S_, .f32⟩
  | .hbm, ⟨4, _⟩ => ⟨S128x3x512, .f32⟩
  | .hbm, ⟨5, _⟩ => ⟨S128x3x512, .f32⟩
  | .hbm, ⟨6, _⟩ => ⟨S128x3x512, .f32⟩
  | .hbm, ⟨7, _⟩ => ⟨S_, .f32⟩
  | .hbm, ⟨8, _⟩ => ⟨S128x512, .f32⟩
  | .hbm, ⟨9, _⟩ => ⟨S128x1x512, .f32⟩
  | .hbm, ⟨10, _⟩ => ⟨S128x3x512, .f32⟩
  | .hbm, ⟨11, _⟩ => ⟨S_, .f32⟩
  | .hbm, ⟨12, _⟩ => ⟨S128x512, .f32⟩
  | .hbm, ⟨13, _⟩ => ⟨S128x1x512, .f32⟩
  | .hbm, ⟨14, _⟩ => ⟨S_, .f32⟩
  | .hbm, ⟨15, _⟩ => ⟨S128x1x512, .f32⟩
  | .hbm, ⟨16, _⟩ => ⟨S_, .f32⟩
  | .hbm, ⟨17, _⟩ => ⟨S128x3x512, .f32⟩
  | .hbm, ⟨18, _⟩ => ⟨S128x8x512, .f32⟩
  | .hbm, ⟨19, _⟩ => ⟨S_, .f32⟩
  | .hbm, ⟨20, _⟩ => ⟨S128x3x512, .f32⟩
  | .hbm, ⟨21, _⟩ => ⟨S128x3x512, .f32⟩
  | .hbm, ⟨22, _⟩ => ⟨S128x8x512, .f32⟩
  | .hbm, ⟨23, _⟩ => ⟨S_, .f32⟩
  | .hbm, ⟨24, _⟩ => ⟨S1x1, .f32⟩
  | .hbm, ⟨25, _⟩ => ⟨S512x1, .f32⟩
  | .hbm, ⟨26, _⟩ => ⟨S512x128, .f32⟩
  | .hbm, ⟨27, _⟩ => ⟨S512x1, .f32⟩
  | .hbm, ⟨28, _⟩ => ⟨S512, .f32⟩
  | .local _ .vmem, ⟨0, _⟩ => ⟨S128x8x512, .f32⟩
  | .local _ .vmem, ⟨1, _⟩ => ⟨S128x8x512, .f32⟩
  | .local _ .vmem, ⟨2, _⟩ => ⟨S512x1, .f32⟩
  | .local _ .vmem, ⟨3, _⟩ => ⟨S512x128, .f32⟩
  | .local _ .smem, ⟨0, _⟩ => ⟨S1x1, .f32⟩
  | _, _ => ⟨S512x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst_0 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_cst_2 : Ref sig .tc := ⟨.hbm, 16, rfl⟩
abbrev main_call0_v9 : Ref sig .tc := ⟨.hbm, 17, rfl⟩
abbrev main_call0_v10 : Ref sig .tc := ⟨.hbm, 18, rfl⟩
abbrev main_call0_cst_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_v0 : Ref sig .tc := ⟨.hbm, 28, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S512x128x3 : Shape := ⟨3, ![512, 128, 3]⟩
abbrev S512 : Shape := ⟨1, ![512]⟩
abbrev S_ : Shape := ⟨0, ![]⟩
abbrev S1x512x128x3 : Shape := ⟨4, ![1, 512, 128, 3]⟩
abbrev S512x1x128x3 : Shape := ⟨4, ![512, 1, 128, 3]⟩
abbrev S512x512x128x3 : Shape := ⟨4, ![512, 512, 128, 3]⟩
abbrev S512x512x128 : Shape := ⟨3, ![512, 512, 128]⟩
abbrev S512x512 : Shape := ⟨2, ![512, 512]⟩
abbrev S512x1 : Shape := ⟨2, ![512, 1]⟩
abbrev S512x2 : Shape := ⟨2, ![512, 2]⟩

abbrev nBuf : Space → Nat
  | .hbm => 51
  | .vmem => 0
  | .smem => 0
  | _ => 0

abbrev bufTy : (tb : Table) → Fin (tcTables nBuf tb) → BufTy
  | .hbm, ⟨0, _⟩ => ⟨S512x128x3, .f32⟩
  | .hbm, ⟨1, _⟩ => ⟨S512x128x3, .f32⟩
  | .hbm, ⟨2, _⟩ => ⟨S512, .f32⟩
  | .hbm, ⟨3, _⟩ => ⟨S_, .f32⟩
  | .hbm, ⟨4, _⟩ => ⟨S_, .f32⟩
  | .hbm, ⟨5, _⟩ => ⟨S1x512x128x3, .f32⟩
  | .hbm, ⟨6, _⟩ => ⟨S512x1x128x3, .f32⟩
  | .hbm, ⟨7, _⟩ => ⟨S512x512x128x3, .f32⟩
  | .hbm, ⟨8, _⟩ => ⟨S512x512x128x3, .f32⟩
  | .hbm, ⟨9, _⟩ => ⟨S512x512x128x3, .f32⟩
  | .hbm, ⟨10, _⟩ => ⟨S512x512x128x3, .f32⟩
  | .hbm, ⟨11, _⟩ => ⟨S_, .f32⟩
  | .hbm, ⟨12, _⟩ => ⟨S512x512x128, .f32⟩
  | .hbm, ⟨13, _⟩ => ⟨S512x512x128, .f32⟩
  | .hbm, ⟨14, _⟩ => ⟨S_, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512x1, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S512x1, .f32⟩
  | .hbm, ⟨38, _⟩ => ⟨S512x512, .f32⟩
  | .hbm, ⟨39, _⟩ => ⟨S512x512, .f32⟩
  | .hbm, ⟨40, _⟩ => ⟨S512, .i32⟩
  | .hbm, ⟨41, _⟩ => ⟨S512x1, .i32⟩
  | .hbm, ⟨42, _⟩ => ⟨S512x1, .i32⟩
  | .hbm, ⟨43, _⟩ => ⟨S512x2, .i32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S512, .f32⟩
  | _, _ => ⟨S512x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Proof.KernelIdealRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

/-! The run of the printed `KernelIdeal` program: its host lines, its one region and the region's body, from any memory
    with zero counters. The result is the frame, and a run whose post names every array at the end. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The contents of core `c`'s buffers when its region starts: the launch memory after the lines before the region. -/
abbrev atEntry (c : Dev nD) : Valuation τ sig (Elt F) :=
  StableHlo.after (List.flatten [hostOps0]) (fun b => m (c, b))

/-- The same contents, read at one TensorCore reference. -/
abbrev entry (c : Dev nD) (b : Ref sig .tc) : Buf (Elt F) ((c : Thread nD τ).loc b) := atEntry m c (Proc.devRef .tc b)

/-- The lines before the region allocate nothing. -/
theorem before_fresh : (hostOps0 : List (HloOp τ sig (Elt F))).Forall fun op => op.fresh = ∅ := by
  simp only [List.Forall]; repeat' constructor

/-- The lines after the region allocate nothing. -/
theorem after_fresh : (hostOps1 : List (HloOp τ sig (Elt F))).Forall fun op => op.fresh = ∅ := by
  simp only [List.Forall]; repeat' constructor

set_option maxHeartbeats 800000 in
/-- The main function reduces to its region continued by the lines after it. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact before_fresh) main_chain

/-- The lines after the region touch only references the region's bookkeeping hands to them. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton.mp hops] at hop
  exact Pipeline.sub_ucRefs op ((List.forall_iff_forall_mem.mp hostOps1_sub) op hop)

/-- The lines after the region allocate nothing, stated over the list of their groups. -/
theorem after_fresh_all : ∀ ops ∈ ([hostOps1] : List (List (HloOp τ sig (Elt F)))), ∀ op ∈ ops, op.fresh = ∅ := by
  intro ops hops op hop
  rw [List.mem_singleton.mp hops] at hop
  exact (List.forall_iff_forall_mem.mp after_fresh) op hop

/-- The lines after the region write no array of the region. -/
theorem after_keeps : ∀ ops ∈ ([hostOps1] : List (List (HloOp τ sig (Elt F)))), ∀ op ∈ ops,
    ∀ w, Proc.devRef .tc (Pipeline.arrRef spec0 w) ∉ op.writes := by
  intro ops hops op hop
  rw [List.mem_singleton.mp hops] at hop
  simp only [hostOps1, List.mem_cons, List.mem_nil_iff, or_false] at hop
  rcases hop with rfl | rfl
  all_goals
    intro w
    fin_cases w <;> exact fun h => StableHlo.devRef_ne_of_ne (by decide) (Finset.mem_singleton.mp h)

/-- The four argument references of the main function. -/
abbrev argRefs : List (Ref sig .tc) := [main_arg0, main_arg1, main_arg2, main_arg3]

/-- No line before the region writes an argument. -/
theorem before_keeps_args : ∀ b ∈ argRefs, ∀ op ∈ List.flatten [(hostOps0 : List (HloOp τ sig (Elt F)))],
    Proc.devRef .tc b ∉ op.writes := by
  simp only [argRefs, List.forall_mem_cons, List.flatten_cons, List.flatten_nil, List.append_nil]
  repeat' apply And.intro
  all_goals first
    | exact fun _ h => nomatch h
    | exact fun h => StableHlo.devRef_ne_of_ne (by decide) (Finset.mem_singleton.mp h)

/-- No line after the region writes an argument. -/
theorem after_keeps_args : ∀ b ∈ argRefs, ∀ op ∈ List.flatten [(hostOps1 : List (HloOp τ sig (Elt F)))],
    Proc.devRef .tc b ∉ op.writes := by
  simp only [argRefs, List.forall_mem_cons, List.flatten_cons, List.flatten_nil, List.append_nil]
  repeat' apply And.intro
  all_goals first
    | exact fun _ h => nomatch h
    | exact fun h => StableHlo.devRef_ne_of_ne (by decide) (Finset.mem_singleton.mp h)

/-- An argument is no array of a window. -/
theorem arg_not_array : ∀ b ∈ argRefs, ∀ w, Pipeline.arrRef spec0 w ≠ b := by decide

/-- The region finds an argument as launched. -/
theorem entry_arg (c : Dev nD) (b : Ref sig .tc) (hb : b ∈ argRefs) : entry m c b = m ((c : Thread nD τ).loc b) :=
  StableHlo.after_of_forall_not_mem (b := Proc.devRef .tc b) _ _ (before_keeps_args b hb)

/-- An argument ends as launched. -/
theorem final_arg (dats : (p : Fin _) → (c : Dev nD) → Dat τ (Elt F) Unit ℕ (UR sig nD τ) ℕ (cfgs p) c) (c : Dev nD)
    (b : Ref sig .tc) (hb : b ∈ argRefs) :
    Pipeline.afterTail₀ cfgs dats 0 (atEntry m) [hostOps1] c b = m ((c : Thread nD τ).loc b) := by
  unfold Pipeline.afterTail₀
  rw [StableHlo.after_of_forall_not_mem (b := Proc.devRef .tc b) _ _ (after_keeps_args b hb),
    Pipeline.withArrays_of_ne _ c (atEntry m c) _ b (arg_not_array b hb)]
  exact entry_arg m c b hb

/-! ## The region's body on any whole staging memrefs -/

-- the run's proof is one long term, walked once more when the definition closes
set_option maxHeartbeats 1436000 in
/-- What the body's stores leave in the output's staging memref, with the triple that says so: started on the four
    inputs at `x0 … x3` and on the output at anything, the body ends with the inputs unchanged and the output holding
    the pieces. -/
noncomputable def body (c : Dev nD) (i : grid0.Coords)
    (arg1 : Memref sig .tc .smem S1x1 .f32) (harg1 : arg1.IsWhole)
    (arg2 : Memref sig .tc .vmem S128x8x512 .f32) (harg2 : arg2.IsWhole)
    (arg3 : Memref sig .tc .vmem S128x8x512 .f32) (harg3 : arg3.IsWhole)
    (arg4 : Memref sig .tc .vmem S512x1 .f32) (harg4 : arg4.IsWhole)
    (arg5 : Memref sig .tc .vmem S512x128 .f32) (harg5 : arg5.IsWhole)
    (x0 : Vec F S1x1 .f32) (x1 x2 : Vec F S128x8x512 .f32) (x3 : Vec F S512x1 .f32) :
    { L : List (View.Piece (Elt F) S512x128 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc0__vmse_kernel i arg1 harg1 arg2 harg2 arg3 harg3 arg4 harg4 arg5 harg5) K } := by
  refine ⟨?_, fun E K => ?run⟩
  case run =>
    simp only [cc0__vmse_kernel_eq_skeleton]; unfold cc0__vmse_kernel_skel
    simp only [k0_part46_eq_skeleton, k0_part1_eq_skeleton, k0_part2_eq_skeleton, k0_part3_eq_skeleton,
      k0_part4_eq_skeleton, k0_part5_eq_skeleton, k0_part6_eq_skeleton, k0_part7_eq_skeleton,
      k0_part8_eq_skeleton, k0_part9_eq_skeleton, k0_part10_eq_skeleton, k0_part11_eq_skeleton,
      k0_part12_eq_skeleton, k0_part13_eq_skeleton, k0_part14_eq_skeleton, k0_part15_eq_skeleton,
      k0_part16_eq_skeleton, k0_part17_eq_skeleton, k0_part18_eq_skeleton, k0_part19_eq_skeleton,
      k0_part20_eq_skeleton, k0_part21_eq_skeleton, k0_part22_eq_skeleton, k0_part23_eq_skeleton,
      k0_part24_eq_skeleton, k0_part25_eq_skeleton, k0_part26_eq_skeleton, k0_part27_eq_skeleton,
      k0_part28_eq_skeleton, k0_part29_eq_skeleton, k0_part30_eq_skeleton, k0_part31_eq_skeleton,
      k0_part32_eq_skeleton, k0_part33_eq_skeleton, k0_part34_eq_skeleton, k0_part35_eq_skeleton,
      k0_part36_eq_skeleton, k0_part37_eq_skeleton, k0_part38_eq_skeleton, k0_part39_eq_skeleton,
      k0_part40_eq_skeleton, k0_part41_eq_skeleton, k0_part42_eq_skeleton, k0_part43_eq_skeleton,
      k0_part44_eq_skeleton, k0_part45_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The body's pieces cover the output's block. -/
theorem body_covers (c : Dev nD) (i : grid0.Coords)
    (arg1 : Memref sig .tc .smem S1x1 .f32) (harg1 : arg1.IsWhole)
    (arg2 : Memref sig .tc .vmem S128x8x512 .f32) (harg2 : arg2.IsWhole)
    (arg3 : Memref sig .tc .vmem S128x8x512 .f32) (harg3 : arg3.IsWhole)
    (arg4 : Memref sig .tc .vmem S512x1 .f32) (harg4 : arg4.IsWhole)
    (arg5 : Memref sig .tc .vmem S512x128 .f32) (harg5 : arg5.IsWhole)
    (x0 : Vec F S1x1 .f32) (x1 x2 : Vec F S128x8x512 .f32) (x3 : Vec F S512x1 .f32) (y : S512x128.Idx) :
    ∃ pc ∈ (body c i arg1 harg1 arg2 harg2 arg3 harg3 arg4 harg4 arg5 harg5 x0 x1 x2 x3).1, y ∈ pc.1.set :=
  View.cover_of_tiledL (body c i arg1 harg1 arg2 harg2 arg3 harg3 arg4 harg4 arg5 harg5 x0 x1 x2 x3).1 S512x128.size
    (by sl_kernel_rfl) y

/-- The view of one staging buffer of the output, through which the body's result is read. -/
abbrev outView : View sig .tc .vmem S512x128 .f32 := (Memref.whole cc0_stg4_0 : Memref sig .tc .vmem S512x128 .f32).view

/-- The output block the body leaves. -/
def bodyOut (c : Dev nD) (i : grid0.Coords)
    (arg1 : Memref sig .tc .smem S1x1 .f32) (harg1 : arg1.IsWhole)
    (arg2 : Memref sig .tc .vmem S128x8x512 .f32) (harg2 : arg2.IsWhole)
    (arg3 : Memref sig .tc .vmem S128x8x512 .f32) (harg3 : arg3.IsWhole)
    (arg4 : Memref sig .tc .vmem S512x1 .f32) (harg4 : arg4.IsWhole)
    (arg5 : Memref sig .tc .vmem S512x128 .f32) (harg5 : arg5.IsWhole)
    (x0 : Vec F S1x1 .f32) (x1 x2 : Vec F S128x8x512 .f32) (x3 : Vec F S512x1 .f32) :
    Vec F S512x128 .f32 :=
  outView.read (Elt F) (outView.writes (Elt F) outView.junk
    (body c i arg1 harg1 arg2 harg2 arg3 harg3 arg4 harg4 arg5 harg5 x0 x1 x2 x3).1)

/-! ## The windows' blocks and the proof data -/

/-- Window `w`'s block at point `t`, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The five current staging memrefs at point `t`, each with the proof that it is whole. -/
abbrev mem0 (t : Fin cfg0.N) : Memref sig .tc .smem S1x1 .f32 := win0_0.stage (cfg0.slots t 0)
/-- That memory of the scalar is a whole one. -/
abbrev whole0 (t : Fin cfg0.N) : (mem0 t).IsWhole := hstage0_0 ((cfg0.slots t 0).cast nbuf0_0)
/-- The memory the body sees of the left operand. -/
abbrev mem1 (t : Fin cfg0.N) : Memref sig .tc .vmem S128x8x512 .f32 := win0_1.stage (cfg0.slots t 1)
/-- That memory of the left operand is a whole one. -/
abbrev whole1 (t : Fin cfg0.N) : (mem1 t).IsWhole := hstage0_1 ((cfg0.slots t 1).cast nbuf0_1)
/-- The memory the body sees of the right operand. -/
abbrev mem2 (t : Fin cfg0.N) : Memref sig .tc .vmem S128x8x512 .f32 := win0_2.stage (cfg0.slots t 2)
/-- That memory of the right operand is a whole one. -/
abbrev whole2 (t : Fin cfg0.N) : (mem2 t).IsWhole := hstage0_2 ((cfg0.slots t 2).cast nbuf0_2)
/-- The memory the body sees of the weights. -/
abbrev mem3 (t : Fin cfg0.N) : Memref sig .tc .vmem S512x1 .f32 := win0_3.stage (cfg0.slots t 3)
/-- That memory of the weights is a whole one. -/
abbrev whole3 (t : Fin cfg0.N) : (mem3 t).IsWhole := hstage0_3 ((cfg0.slots t 3).cast nbuf0_3)
/-- The memory the body sees of the result. -/
abbrev mem4 (t : Fin cfg0.N) : Memref sig .tc .vmem S512x128 .f32 := win0_4.stage (cfg0.slots t 4)
/-- That memory of the result is a whole one. -/
abbrev whole4 (t : Fin cfg0.N) : (mem4 t).IsWhole := hstage0_4 ((cfg0.slots t 4).cast nbuf0_4)

/-- The output's staging buffer after the body at point `t`. -/
def outAt (c : Dev nD) (t : Fin cfg0.N) : Vec F S512x128 .f32 :=
  bodyOut c (grid0.coords t) (mem0 t) (whole0 t) (mem1 t) (whole1 t) (mem2 t) (whole2 t) (mem3 t) (whole3 t) (mem4 t)
    (whole4 t) (block m c 0 t) (block m c 1 t) (block m c 2 t) (block m c 3 t)

/-- The region's proof data on core `c`: arrays as found, inputs left at their blocks, the output at `outAt`. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => outAt m c t
  Φ _ := Pipeline.ΦA spec0 c
  q _ := fullShare
  owed _ := 0

/-- The proof data's arrays are the contents at the region's start. -/
theorem dats_A (c : Dev nD) (w : Fin cfg0.W) : (dats m 0 c).A w = entry m c (Pipeline.arrRef spec0 w) := by
  dsimp only [dats]

/-- What the body leaves in each window's staging buffer. -/
theorem after0 (c : Dev nD) (t : Fin cfg0.N) : (dats m 0 c).after 0 t = block m c 0 t := by dsimp only [dats]
/-- What the body leaves of the left operand. -/
theorem after1 (c : Dev nD) (t : Fin cfg0.N) : (dats m 0 c).after 1 t = block m c 1 t := by dsimp only [dats]
/-- What the body leaves of the right operand. -/
theorem after2 (c : Dev nD) (t : Fin cfg0.N) : (dats m 0 c).after 2 t = block m c 2 t := by dsimp only [dats]
/-- What the body leaves of the weights. -/
theorem after3 (c : Dev nD) (t : Fin cfg0.N) : (dats m 0 c).after 3 t = block m c 3 t := by dsimp only [dats]
/-- What the body leaves of the result. -/
theorem after4 (c : Dev nD) (t : Fin cfg0.N) : (dats m 0 c).after 4 t = outAt m c t := by dsimp only [dats]

/-- Each input's staging buffer holds its block when the body starts. -/
theorem before0 (c : Dev nD) (t : Fin cfg0.N) (d) : (dats m 0 c).before 0 t d = block m c 0 t :=
  ((dats m 0 c).before_in_eq_fetched 0 rfl (fun _ => rfl) (fun _ _ _ => rfl)
    (fun t => by rw [after0]; unfold Dat.blockOf block; rw [dats_A]) t d).trans
    (by unfold Dat.fetched Dat.blockOf block; rw [dats_A]; rfl)
/-- What the body finds of the left operand. -/
theorem before1 (c : Dev nD) (t : Fin cfg0.N) (d) : (dats m 0 c).before 1 t d = block m c 1 t :=
  ((dats m 0 c).before_in_eq_fetched 1 rfl (fun _ => rfl) (fun _ _ _ => rfl)
    (fun t => by rw [after1]; unfold Dat.blockOf block; rw [dats_A]) t d).trans
    (by unfold Dat.fetched Dat.blockOf block; rw [dats_A]; rfl)
/-- What the body finds of the right operand. -/
theorem before2 (c : Dev nD) (t : Fin cfg0.N) (d) : (dats m 0 c).before 2 t d = block m c 2 t :=
  ((dats m 0 c).before_in_eq_fetched 2 rfl (fun _ => rfl) (fun _ _ _ => rfl)
    (fun t => by rw [after2]; unfold Dat.blockOf block; rw [dats_A]) t d).trans
    (by unfold Dat.fetched Dat.blockOf block; rw [dats_A]; rfl)
/-- What the body finds of the weights. -/
theorem before3 (c : Dev nD) (t : Fin cfg0.N) (d) : (dats m 0 c).before 3 t d = block m c 3 t :=
  ((dats m 0 c).before_in_eq_fetched 3 rfl (fun _ => rfl) (fun _ _ _ => rfl)
    (fun t => by rw [after3]; unfold Dat.blockOf block; rw [dats_A]) t d).trans
    (by unfold Dat.fetched Dat.blockOf block; rw [dats_A]; rfl)

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t))

/-- The body at any point takes its precondition to its postcondition. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outAt bodyOut
  iintro ⟨HΦ, Ho, ⟨%d0, H0⟩, ⟨%d1, H1⟩, ⟨%d2, H2⟩, ⟨%d3, H3⟩, ⟨%d4, H4⟩⟩
  iapply ((body c (grid0.coords t) _ _ _ _ _ _ _ _ _ _ (block m c 0 t) (block m c 1 t) (block m c 2 t) (block m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (body_covers c _ _ _ _ _ _ _ _ _ _ _ _ _ _ _)

/-- The body table's row at point `t` is the body. -/
theorem table_row (t : Fin cfg0.N) :
    defs₀ (F := F) .tc cfg0.body (cfg0.bodyArgs t (cfg0.slots t)) = bodyAt0 t := by
  unfold defs₀; rw [Defs.onTc_tc]

/-- The library's obligation on the body, at every point. -/
theorem obligation (c : Dev nD) : BodyObligation (dats (F := F) m 0 c) (defs₀ (F := F)) Variants.none () Set.univ := fun t => by
  rw [bigSep_W0, bigSep_W0, table_row]
  exact triple_restated (body_sound m c t) rfl .rfl fun _ => .rfl

/-! ## The run and the frame -/

/-- The post of the run: every array of the region, and every other buffer, at what the proof data and the later host
    lines make of it. -/
abbrev Post := Pipeline.FramePost cfgs (dats m) 0 (Pipeline.afterTail₀ cfgs (dats m) 0 (atEntry m) [hostOps1])

-- the implicit arguments of the launch rule are found by unfolding plain definitions inside a type
set_option backward.isDefEq.respectTransparency.types false in
set_option maxHeartbeats 800000 in
/-- Every fair execution of the main function ends, in a state satisfying `Post` with every counter at zero. -/
theorem run_zero : θ_run defs (onTc (τ := τ) (main (F := F))) (s₀ m ρ) (fun r => Post m r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := atEntry m) (opss := [hostOps1]) (hsub := after_sub) (hfresh := after_fresh_all)
    (hkeep := after_keeps) (hmain := main_around m Variants.none) (hA := dats_A m) (hΦ := fun _ _ => rfl)

/-- The run without its counters. -/
theorem run : θ_run defs (onTc (τ := τ) (main (F := F))) (s₀ m ρ) (Post m) :=
  (θ_run defs _ _).mono (fun _ h => h.1) (run_zero m ρ)

/-- An argument ends as launched in every final state of the run. -/
theorem post_arg {r} (h : Post m r) (c : Dev nD) (b : Ref sig .tc) (hb : b ∈ argRefs)
    (hs : b ∈ Pipeline.restRefs sig spec0 := by exact Pipeline.mem_restRefs_of _ (by decide) (by decide)) :
    r.2.mem ((c.tc : Thread nD τ).loc b) = m ((c.tc : Thread nD τ).loc b) :=
  ((h c).2 b hs).trans (final_arg m (dats m) c b hb)

/-- The frame: every fair execution ends with the four arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨post_arg m h.1 c main_arg0 (by simp), post_arg m h.1 c main_arg1 (by simp),
    post_arg m h.1 c main_arg2 (by simp), post_arg m h.1 c main_arg3 (by simp)⟩, h.2⟩) (run_zero m ρ)

end Cert.KernelIdeal.Run

end
-- ==== Proof.KernelIdealBody.lean ====
module

public import proofs.«01_k».proof.Proof.KernelIdealRun
public import Idealize.ShloMosaic.Lib.Tactic.Stretches
public import Idealize.ShloMosaic.Lib.Pipeline.ValueKit

/-! The kernel body's arithmetic as short functions of what it loads, at any float values, and the proof that the run's
    one store holds them. -/

@[expose] public section

set_option maxRecDepth 16384

noncomputable section

namespace Cert.KernelIdeal.Body

open Idealize.ShloMosaic Idealize.ShloMosaic.TcCoe Idealize.ShloMosaic.Tactic
open Cert.KernelIdeal.Gen Cert.KernelIdeal.Run

variable {F : FTy → Type} [FloatOps F]

/-- The distances at one point, from its two slabs: the contraction over the eight rows, narrowed, kept above the
    floor, times its own reciprocal square root. -/
def dist (a b : Vec F S1x8x512 .f32) : FVec F S512x512 .bf16 :=
  mulf
    (maximumf (truncf .bf16 (matmul dot_S8x512_S8x512_S512x512_0_0_1_1_n_n none
        (shapeCast S8x512 (shapeCast S1x8x512 a shapeCasts_S1x8x512_S1x8x512) shapeCasts_S1x8x512_S8x512)
        (shapeCast S8x512 (shapeCast S1x8x512 b shapeCasts_S1x8x512_S1x8x512) shapeCasts_S1x8x512_S8x512)
        (constant S512x512 .f32 0x00000000#32)) bitsLt_bf16_f32)
      (broadcast S512x512 (Scalar.ofBits .bf16 0x0DA2#16)))
    (rsqrt (maximumf (truncf .bf16 (matmul dot_S8x512_S8x512_S512x512_0_0_1_1_n_n none
        (shapeCast S8x512 (shapeCast S1x8x512 a shapeCasts_S1x8x512_S1x8x512) shapeCasts_S1x8x512_S8x512)
        (shapeCast S8x512 (shapeCast S1x8x512 b shapeCasts_S1x8x512_S1x8x512) shapeCasts_S1x8x512_S8x512)
        (constant S512x512 .f32 0x00000000#32)) bitsLt_bf16_f32)
      (broadcast S512x512 (Scalar.ofBits .bf16 0x0DA2#16))))

/-- The sum of the distances at the points `s`, `s + 1`, …, `s + k`, added from the left. -/
def sumTo (d : Fin 128 → FVec F S512x512 .bf16) (s : ℕ) : ℕ → FVec F S512x512 .bf16
  | 0 => d (Fin.ofNat 128 s)
  | k + 1 => addf (sumTo d s k) (d (Fin.ofNat 128 (s + (k + 1))))

/-- The sum of all distances: four groups of 32 points, widened, then added in pairs. -/
def total (d : Fin 128 → FVec F S512x512 .bf16) : FVec F S512x512 .f32 :=
  addf (addf (extf .f32 (sumTo d 0 31) bitsLt_bf16_f32) (extf .f32 (sumTo d 32 31) bitsLt_bf16_f32))
    (addf (extf .f32 (sumTo d 64 31) bitsLt_bf16_f32) (extf .f32 (sumTo d 96 31) bitsLt_bf16_f32))

/-- The square of the mean distance. -/
def meanSq (d : Fin 128 → FVec F S512x512 .bf16) : FVec F S512x512 .f32 :=
  mulf (mulf (total d) (broadcast S512x512 (Scalar.ofBits .f32 0x3C000000#32)))
    (mulf (total d) (broadcast S512x512 (Scalar.ofBits .f32 0x3C000000#32)))

/-- A point's slab lies inside the operand. -/
theorem slab_fits (n : Fin 128) : ∀ a, (![n.val, 0, 0] : Fin 3 → ℕ) a + S1x8x512.size a ≤ S128x8x512.size a := by
  intro a
  match a with
  | ⟨0, _⟩ => exact n.isLt
  | ⟨1, _⟩ => exact le_refl 8
  | ⟨2, _⟩ => exact le_refl 512

/-- The slab of point `n` of an operand. -/
def slab (x : Vec F S128x8x512 .f32) (n : Fin 128) : Vec F S1x8x512 .f32 :=
  View.ld x (Rect.unit (s := S128x8x512) ![n.val, 0, 0] S1x8x512.size (slab_fits n))

/-- The slab of point `n` as the body loads it from a staging memref. -/
abbrev loaded (arg : Memref sig .tc .vmem S128x8x512 .f32) (harg : arg.IsWhole) (x : Vec F S128x8x512 .f32) (n : Fin 128) :
    Vec F S1x8x512 .f32 :=
  View.readAt (Elt F) arg.view (Rect.unit (s := S128x8x512) ![n.val, 0, 0] S1x8x512.size (slab_fits n)).toLoadRect (harg.unread x)

/-- What the body loads from a staging memref is the operand's slab. -/
theorem loaded_eq (arg : Memref sig .tc .vmem S128x8x512 .f32) (harg : arg.IsWhole) (x : Vec F S128x8x512 .f32) (n : Fin 128) :
    loaded arg harg x n = slab x n := by
  unfold loaded slab
  rw [View.readAt_eq_ld, Memref.IsWhole.read_unread]

set_option maxHeartbeats 2000000 in
/-- The run's squared mean is `meanSq` of the points' distances. -/
theorem run_meanSq (c : Dev nD)
    (arg2 : Memref sig .tc .vmem S128x8x512 .f32) (harg2 : arg2.IsWhole)
    (arg3 : Memref sig .tc .vmem S128x8x512 .f32) (harg3 : arg3.IsWhole) (x1 x2 : Vec F S128x8x512 .f32) :
    body.sl.r_86 c arg2 harg2 arg3 harg3 x1 x2
      = meanSq (fun n => dist (loaded arg2 harg2 x1 n) (loaded arg3 harg3 x2 n)) := by
  sl_open_run
  sl_open_pay
  rfl

/-- The body's last lines, from the noise variance, the squared means and the weights: logits, their log-sum-exp, the
    diagonal, the scaled and weighted loss, spread over 128 lanes. -/
def finish (nv : Elt F .f32) (q : FVec F S512x512 .f32) (w : Vec F S512x1 .f32) : FVec F S512x128 .f32 :=
  k0_pay1 nv (k0_pay88 nv q (Scalar.ofBits .f32 0xBF000000#32)) (k0_pay89 nv q (Scalar.ofBits .f32 0xBF000000#32))
    (iota .tc S512x512 32 [0] iota_S512x512_d0_w32) w

/-- The output block the body leaves, as a function of the four blocks it reads. -/
theorem bodyOut_eq (c : Dev nD) (i : grid0.Coords)
    (arg1 : Memref sig .tc .smem S1x1 .f32) (harg1 : arg1.IsWhole)
    (arg2 : Memref sig .tc .vmem S128x8x512 .f32) (harg2 : arg2.IsWhole)
    (arg3 : Memref sig .tc .vmem S128x8x512 .f32) (harg3 : arg3.IsWhole)
    (arg4 : Memref sig .tc .vmem S512x1 .f32) (harg4 : arg4.IsWhole)
    (arg5 : Memref sig .tc .vmem S512x128 .f32) (harg5 : arg5.IsWhole)
    (x0 : Vec F S1x1 .f32) (x1 x2 : Vec F S128x8x512 .f32) (x3 : Vec F S512x1 .f32) :
    bodyOut c i arg1 harg1 arg2 harg2 arg3 harg3 arg4 harg4 arg5 harg5 x0 x1 x2 x3
      = finish (x0 (ix2 0 0)) (meanSq (fun n => dist (slab x1 n) (slab x2 n))) x3 := by
  unfold bodyOut
  rw [View.read_writes_junk_eq_canon]
  unfold body
  dsimp only
  have hz : (![0, 0] : Fin 2 → ℕ) = fun _ => 0 := by ext a; fin_cases a <;> rfl
  rw [View.canon_unit_zero hz, View.readAt_eq_ld, Memref.IsWhole.read_unread, View.ld_unit_zero hz]
  unfold body.sl.r_87 body.sl.r_88
  rw [run_meanSq]
  simp only [loaded_eq]
  unfold body.sl.r_85
  rw [View.readAt_eq_ld, Memref.IsWhole.read_unread, View.ld_unit_zero hz]
  have h0 : ∀ h, (Shape.Idx.first h : S1x1.Idx) = ix2 0 0 := fun h => by
    funext a; fin_cases a <;> exact Subsingleton.elim (α := Fin 1) _ _
  rw [h0]
  rfl

end Cert.KernelIdeal.Body

end
-- ==== Proof.KernelIdealValue.lean ====
module

public import proofs.«01_k».proof.Proof.KernelIdealBody

/-! The idealized kernel's result as a term of its four arguments, at any float values. -/

@[expose] public section

set_option maxRecDepth 16384

noncomputable section

namespace Cert.KernelIdeal.Val

open Idealize.ShloMosaic Idealize.ShloMosaic.TcCoe Idealize.ShloMosaic.Tactic Idealize.SL.Sem
open Cert.KernelIdeal.Gen Cert.KernelIdeal.Run Cert.KernelIdeal.Body

variable {F : FTy → Type} [FloatOps F]

/-- The eight planes of an operand: three, one, one and three planes, one below the other. -/
def stack (x : Vec F S128x3x512 .f32) (y z : Vec F S128x1x512 .f32) (u : Vec F S128x3x512 .f32) : Vec F S128x8x512 .f32 :=
  concatenate S128x8x512 1 [⟨S128x3x512, x⟩, ⟨S128x1x512, y⟩, ⟨S128x1x512, z⟩, ⟨S128x3x512, u⟩]
    concatenates_S128x3x512_S128x1x512_S128x1x512_S128x3x512_S128x8x512_d1

/-- The points of a set, one plane a coordinate. -/
def planes (x : Vec F S512x128x3 .f32) : Vec F S128x3x512 .f32 :=
  transpose S128x3x512 [1, 2, 0] x transposes_S512x128x3_S128x3x512_1_2_0

/-- The squared lengths of the points, as one plane. -/
def lengths (x : Vec F S512x128x3 .f32) : Vec F S128x1x512 .f32 :=
  broadcastInDim S128x1x512 ![0, 2] bcast_S128x512_S128x1x512_0_2
    (Host.reduceAdd (mulf (planes x) (planes x)) (constant S_ .f32 0x00000000#32) reducesTo_S128x3x512_S128x512_d1 h_S_)

/-- A plane of ones. -/
def ones : Vec F S128x1x512 .f32 := broadcastInDim S128x1x512 ![] bcast_S_S128x1x512 (constant S_ .f32 0x3F800000#32)

/-- Three planes of one constant. -/
def consts (w : BitVec 32) : Vec F S128x3x512 .f32 := broadcastInDim S128x3x512 ![] bcast_S_S128x3x512 (constant S_ .f32 w)

/-- The left operand of the products: the points of the first set, their squared lengths, ones and zeros. -/
def left (x : Vec F S512x128x3 .f32) : Vec F S128x8x512 .f32 := stack (planes x) (lengths x) ones (consts 0x00000000#32)

/-- The right operand: the points of the second set times minus two, ones, their squared lengths and zeros. -/
def right (x : Vec F S512x128x3 .f32) : Vec F S128x8x512 .f32 :=
  stack (mulf (consts 0xC0000000#32) (planes x)) ones (lengths x) (consts 0x00000000#32)

variable (m : (ℓ : Loc nD τ sig) → Buf (Elt F) ℓ) (ρ : Dev nD → PrngReg)

/-- What the first concatenation leaves in its buffer. -/
theorem result_left (V : Valuation τ sig (Elt F)) :
    ((hostOps0 (F := F))[14]).result V (Proc.devRef .tc main_call0_v10)
      = stack (V (Proc.devRef .tc main_call0_v0)) (V (Proc.devRef .tc main_call0_v4)) (V (Proc.devRef .tc main_call0_v8))
          (V (Proc.devRef .tc main_call0_v9)) := by
  simp only [List.getElem_cons_succ, List.getElem_cons_zero]
  exact (StableHlo.nary_result _ _ _ _ _ V).trans rfl

/-- What the second concatenation leaves in its buffer. -/
theorem result_right (V : Valuation τ sig (Elt F)) :
    ((hostOps0 (F := F))[18]).result V (Proc.devRef .tc main_call0_v13)
      = stack (V (Proc.devRef .tc main_call0_v12)) (V (Proc.devRef .tc main_call0_v8)) (V (Proc.devRef .tc main_call0_v7))
          (V (Proc.devRef .tc main_call0_v9)) := by
  simp only [List.getElem_cons_succ, List.getElem_cons_zero]
  exact (StableHlo.nary_result _ _ _ _ _ V).trans rfl

/-- The arrays the region finds: the two operands, the squared scale and the weights. -/
theorem entry_left (c : Dev nD) : entry m c main_call0_v10 = left (m (c, Proc.devRef .tc main_arg0)) := by
  unfold entry atEntry
  simp only [List.flatten_cons, List.flatten_nil, List.append_nil, StableHlo.after_cons, StableHlo.after_nil, ↓ StableHlo.readResult]
  refine (result_left _).trans ?_
  simp only [↓ StableHlo.readResult]
  rfl

/-- The right operand the launch finds, from the ground truth. -/
theorem entry_right (c : Dev nD) : entry m c main_call0_v13 = right (m (c, Proc.devRef .tc main_arg1)) := by
  unfold entry atEntry
  simp only [List.flatten_cons, List.flatten_nil, List.append_nil, StableHlo.after_cons, StableHlo.after_nil, ↓ StableHlo.readResult]
  refine (result_right _).trans ?_
  simp only [↓ StableHlo.readResult]
  rfl

/-- The scalar the launch finds: the square of sigma. -/
theorem entry_square (c : Dev nD) :
    entry m c main_call0_v15 = shapeCast S1x1 (mulf (m (c, Proc.devRef .tc main_arg3)) (m (c, Proc.devRef .tc main_arg3))) shapeCasts_S_S1x1 := by
  unfold entry atEntry
  simp only [List.flatten_cons, List.flatten_nil, List.append_nil, StableHlo.after_cons, StableHlo.after_nil, ↓ StableHlo.readResult]
  rfl

/-- The column of weights the launch finds. -/
theorem entry_weights (c : Dev nD) :
    entry m c main_call0_v16 = shapeCast S512x1 (m (c, Proc.devRef .tc main_arg2)) shapeCasts_S512_S512x1 := by
  unfold entry atEntry
  simp only [List.flatten_cons, List.flatten_nil, List.append_nil, StableHlo.after_cons, StableHlo.after_nil, ↓ StableHlo.readResult]
  rfl

/-- Every window sits at its array's origin. -/
theorem idx : ∀ t : Fin cfg0.N, win0_0.index t = ![0, 0] ∧ win0_1.index t = ![0, 0, 0] ∧ win0_2.index t = ![0, 0, 0]
    ∧ win0_3.index t = ![0, 0] :=
  (by decide +kernel : ∀ t : Fin grid0.N, _)

/-- The region's one point finds each array whole. -/
theorem block_square (c : Dev nD) : block m c 0 t0_0
    = shapeCast S1x1 (mulf (m (c, Proc.devRef .tc main_arg3)) (m (c, Proc.devRef .tc main_arg3))) shapeCasts_S_S1x1 := by
  rw [← entry_square]; blk_ext! [block, idx t0_0]
/-- The block of the left operand is the whole of it. -/
theorem block_left (c : Dev nD) : block m c 1 t0_0 = left (m (c, Proc.devRef .tc main_arg0)) := by
  rw [← entry_left]; blk_ext! [block, idx t0_0]
/-- The block of the right operand is the whole of it. -/
theorem block_right (c : Dev nD) : block m c 2 t0_0 = right (m (c, Proc.devRef .tc main_arg1)) := by
  rw [← entry_right]; blk_ext! [block, idx t0_0]
/-- The block of the weights is the whole column. -/
theorem block_weights (c : Dev nD) :
    block m c 3 t0_0 = shapeCast S512x1 (m (c, Proc.devRef .tc main_arg2)) shapeCasts_S512_S512x1 := by
  rw [← entry_weights]; blk_ext! [block, idx t0_0]

/-- The output array at the region's end. -/
theorem out_array (c : Dev nD) : (dats m 0 c).arrAt 4 cfg0.N = outAt m c t0_0 := by
  refine (dats m 0 c).arrAt_eq_of_after_last 4 t0_0 (by decide +kernel) _ fun j => ?_
  blk_simp
  rw [after4]

/-- The result buffer after the host's last two lines. -/
theorem final_result (c : Dev nD) : Pipeline.afterTail₀ cfgs (dats m) 0 (atEntry m) [hostOps1] c main_v0
    = shapeCast S512 (extractStridedSlice S512x1 ![0, 0] ((dats m 0 c).arrAt 4 cfg0.N) slices_S512x128_S512x1_0_0)
        shapeCasts_S512x1_S512 := by
  unfold Pipeline.afterTail₀
  simp only [List.flatten_cons, List.flatten_nil, List.append_nil, StableHlo.after_cons, StableHlo.after_nil,
    ↓ StableHlo.readResult]
  rw [show Pipeline.withArrays (cfgs 0).spec c (atEntry m c) (fun w => (dats m 0 c).arrAt w (cfgs 0).N)
      (Proc.tc.devRef main_call0_v17) = (dats m 0 c).arrAt 4 cfg0.N from
    Pipeline.withArrays_arr spec0 (by decide) c (atEntry m c) (fun w => (dats m 0 c).arrAt w (cfgs 0).N) 4]
  rfl

/-- The kernel's result of its four arguments. -/
def result (pred gt : Vec F S512x128x3 .f32) (w : Vec F S512 .f32) (σ : Vec F S_ .f32) : Vec F S512 .f32 :=
  shapeCast S512
    (extractStridedSlice S512x1 ![0, 0]
      (finish (shapeCast S1x1 (mulf σ σ) shapeCasts_S_S1x1 (ix2 0 0))
        (meanSq fun n => dist (slab (left pred) n) (slab (right gt) n))
        (shapeCast S512x1 w shapeCasts_S512_S512x1))
      slices_S512x128_S512x1_0_0)
    shapeCasts_S512x1_S512

/-- The result buffer at the end of the run. -/
theorem post_result {r} (h : Post m r) (c : Dev nD) :
    r.2.mem ((c.tc : Thread nD τ).loc main_v0)
      = result (m (c, Proc.devRef .tc main_arg0)) (m (c, Proc.devRef .tc main_arg1)) (m (c, Proc.devRef .tc main_arg2))
          (m (c, Proc.devRef .tc main_arg3)) := by
  rw [(h c).2 main_v0 (Pipeline.mem_restRefs_of _ (by decide) (by decide)), final_result, out_array]
  unfold outAt
  rw [bodyOut_eq, block_square, block_left, block_right, block_weights]
  rfl

end Cert.KernelIdeal.Val

end
-- ==== Proof.Scalar.lean ====
module

public import Idealize.ShloMosaic.Lib.Pointwise

/-! Facts about extended reals: the constants both programs use, one distance, and one row of the softmax. -/

@[expose] public section

noncomputable section

namespace Cert.Scalar

open Idealize.ShloMosaic Finset

/-! ## Constants -/

/-- What each constant's word denotes. -/
theorem neg_half : Ideal.ofBits .f32 0xBF000000#32 = ((-(1 / 2) : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem neg_two : Ideal.ofBits .f32 0xC0000000#32 = ((-2 : ℝ) : EReal) := by
  simp [Ideal.ofBits, Ideal.ieee, -EReal.coe_mul]; norm_num
theorem points : Ideal.ofBits .f32 0x43000000#32 = ((128 : ℝ) : EReal) := by
  simp [Ideal.ofBits, Ideal.ieee, -EReal.coe_mul]; norm_num
theorem inv_points : Ideal.ofBits .f32 0x3C000000#32 = ((1 / 128 : ℝ) : EReal) := by
  simp [Ideal.ofBits, Ideal.ieee, -EReal.coe_mul]; norm_num
theorem neg_inf : Ideal.ofBits .f32 0xFF800000#32 = ⊥ := by
  simp [Ideal.ofBits, Ideal.ieee]
theorem pos_inf : Ideal.ofBits .f32 0x7F800000#32 = ⊤ := by
  simp [Ideal.ofBits, Ideal.ieee]

/-- The floor under the squared distances: the real number its words denote. -/
def floor : ℝ := 162 * (2 : ℝ) ^ (-107 : ℤ)
theorem floor_pos : 0 < floor := by unfold floor; positivity
theorem floor_kernel : Ideal.ofBits .bf16 0x0DA2#16 = (floor : EReal) := by
  unfold floor
  simp [Ideal.ofBits, Ideal.ieee, -EReal.coe_mul]
theorem floor_pre : Ideal.ofBits .f32 0x0DA20000#32 = (floor : EReal) := by
  unfold floor
  simp [Ideal.ofBits, Ideal.ieee, -EReal.coe_mul]; norm_num

/-! ## Sums and maxima of reals -/

/-- A sum of reals is real. -/
theorem coe_sum {ι : Type} (s : Finset ι) (f : ι → ℝ) : ∑ x ∈ s, (f x : EReal) = ((∑ x ∈ s, f x : ℝ) : EReal) := by
  classical
  induction s using Finset.induction_on with
  | empty => simp
  | insert a s h ih => rw [sum_insert h, sum_insert h, ih, EReal.coe_add]

/-- The maximum of finitely many reals, taken from `⊥`, is real. -/
theorem fold_max_real {n : ℕ} (f : Fin (n + 1) → ℝ) :
    ∃ μ : ℝ, (univ : Finset (Fin (n + 1))).fold max ⊥ (fun x => (f x : EReal)) = (μ : EReal) := by
  obtain ⟨k, -, hk⟩ := exists_max_image univ f ⟨0, mem_univ _⟩
  refine ⟨f k, le_antisymm ?_ ?_⟩
  · rw [fold_max_le]; exact ⟨bot_le, fun x hx => EReal.coe_le_coe_iff.mpr (hk x hx)⟩
  · rw [le_fold_max]; exact .inr ⟨k, mem_univ _, le_refl _⟩

/-- Division of reals by a nonzero real. -/
theorem div_real (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- Division by `⊤` gives zero for a real. -/
theorem div_top (x : EReal) : Ideal.div x ⊤ = 0 := by
  unfold Ideal.div
  rw [if_neg (by simp), EReal.inv_top, mul_zero]

/-! ## One distance -/

/-- A real at or above the floor, times its reciprocal root, is its root. -/
theorem root_of_floor {d : ℝ} (h : floor ≤ d) :
    max (d : EReal) (floor : EReal) * Ideal.rsqrt (max (d : EReal) (floor : EReal)) = ((Real.sqrt d : ℝ) : EReal) := by
  have pos : 0 < d := floor_pos.trans_le h
  rw [max_eq_left (EReal.coe_le_coe_iff.mpr h), Ideal.rsqrt_coe, if_neg pos.not_gt, if_neg pos.ne', ← EReal.coe_mul]
  congr 1
  rw [← div_eq_mul_inv, Real.div_sqrt]

/-! ## One row -/

/-- Choosing the entry on the diagonal and zero elsewhere, and adding up, gives the entry on the diagonal. -/
theorem diag_sum (f : Fin 512 → EReal) (i : Fin 512) :
    ∑ x, Scalar.select (IntOp.cmpi CmpIPredicate.eq (BitVec.ofNat 32 i.val) (BitVec.ofNat 32 x.val)) (f x) 0 = f i := by
  rw [sum_eq_single i]
  · simp [Scalar.select, IntOp.cmpi]
  · intro x _ hx
    have : BitVec.ofNat 32 i.val ≠ BitVec.ofNat 32 x.val := fun h => hx (Fin.ext (by
      have := congrArg BitVec.toNat h
      have := i.isLt; have := x.isLt
      simp only [BitVec.toNat_ofNat] at *
      omega))
    simp [Scalar.select, IntOp.cmpi, beq_false_of_ne this]
  · simp

/-- The log-softmax of a row of reals at one entry, negated: the kernel's form equals the reference's. -/
theorem row (r : Fin 512 → ℝ) (i : Fin 512) :
    Ideal.log (∑ x, Ideal.exp ((r x : EReal) - univ.fold max ⊥ fun x => (r x : EReal)))
        + (univ.fold max ⊥ fun x => (r x : EReal)) - (r i : EReal)
      = -((r i : EReal) - max ⊥ (univ.fold max ⊥ fun x => (r x : EReal))
          - Ideal.log (∑ x, Ideal.exp ((r x : EReal) - max ⊥ (univ.fold max ⊥ fun x => (r x : EReal))))) := by
  obtain ⟨μ, h⟩ := fold_max_real r
  have pos : 0 < ∑ x, Real.exp (r x - μ) := sum_pos (fun _ _ => Real.exp_pos _) ⟨i, mem_univ _⟩
  rw [h, max_eq_right bot_le]
  simp only [← EReal.coe_sub, Ideal.exp_coe]
  rw [coe_sum, Ideal.log_coe, if_neg pos.not_ge, ← EReal.coe_add, ← EReal.coe_sub, ← EReal.coe_sub, ← EReal.coe_neg]
  congr 1
  ring

end Cert.Scalar

end
-- ==== Proof.KernelIdealAt.lean ====
module

public import proofs.«01_k».proof.Proof.KernelIdealValue
public import proofs.«01_k».proof.Proof.Scalar

/-! The idealized kernel's result read at an index, over the extended reals. -/

@[expose] public section

set_option maxRecDepth 16384

noncomputable section

namespace Cert.KernelIdeal.Val

open Idealize.ShloMosaic Idealize.ShloMosaic.TcCoe Idealize.ShloMosaic.Tactic Finset
open Cert.KernelIdeal.Gen Cert.KernelIdeal.Body

/-- A slab read at an index. -/
theorem slab_at (a : Vec Ideal S128x8x512 .f32) (n : Fin 128) (k : Fin 8) (i : Fin 512) :
    slab a n (ix3 0 k i) = a (ix3 n k i) := by
  unfold slab View.ld
  refine congrArg a ?_
  funext x; match x with
   | ⟨0, _⟩ => exact Fin.ext (by simp [Rect.unit])
   | ⟨1, _⟩ => exact Fin.ext (by simp [Rect.unit])
   | ⟨2, _⟩ => exact Fin.ext (by simp [Rect.unit])

/-- The squared distance the products give, between the points `n` of the sets `i` and `j`. -/
def squared (pred gt : Vec Ideal S512x128x3 .f32) (n : Fin 128) (i j : Fin 512) : EReal :=
  ∑ k : Fin 8, left pred (ix3 n k i) * right gt (ix3 n k j)

/-- The squared distance when the coordinates are real. -/
theorem squared_real (p g : Fin 512 → Fin 128 → Fin 3 → ℝ) (pred gt : Vec Ideal S512x128x3 .f32)
    (hp : ∀ i n k, pred (ix3 i n k) = ((p i n k : ℝ) : EReal)) (hg : ∀ i n k, gt (ix3 i n k) = ((g i n k : ℝ) : EReal))
    (n : Fin 128) (i j : Fin 512) :
    squared pred gt n i j = ((∑ k, (g j n k - p i n k) * (g j n k - p i n k) : ℝ) : EReal) := by
  unfold squared
  pointwise [left, right, stack, planes, lengths, ones, consts]
  rw [Fin.sum_univ_eight]
  simp only [Scalar.neg_two, hp, hg, Fin.sum_univ_three, Fin.isValue, Fin.coe_ofNat_eq_mod, Nat.reduceMod, Nat.reduceSub,
    Nat.reduceLT, ↓reduceDIte, ← EReal.coe_mul, ← EReal.coe_add, one_mul, mul_one, mul_zero, add_zero]
  simp only [Fin.zero_eta, Fin.mk_one, Fin.reduceFinMk]
  congr 1
  ring

/-- One point's distance, from the squared distance. -/
theorem dist_at (pred gt : Vec Ideal S512x128x3 .f32) (n : Fin 128) (i j : Fin 512) :
    Body.dist (slab (left pred) n) (slab (right gt) n) (ix2 i j)
      = max (squared pred gt n i j) (Scalar.floor : EReal) * Ideal.rsqrt (max (squared pred gt n i j) (Scalar.floor : EReal)) := by
  unfold Body.dist squared
  pointwise
  simp only [slab_at, Scalar.floor_kernel]

/-- The partial sums are sums. -/
theorem sumTo_at (d : Fin 128 → FVec Ideal S512x512 .bf16) (s k : ℕ) (i j : Fin 512) :
    sumTo d s k (ix2 i j) = ∑ u ∈ range (k + 1), d (Fin.ofNat 128 (s + u)) (ix2 i j) := by
  induction k with
  | zero => simp [sumTo]
  | succ k ih =>
    rw [sum_range_succ, ← ih]
    rfl

/-- The kernel's grouped sum over the points is the sum over the points. -/
theorem total_at (d : Fin 128 → FVec Ideal S512x512 .bf16) (i j : Fin 512) :
    total d (ix2 i j) = ∑ n, d n (ix2 i j) := by
  have whole : ∑ n, d n (ix2 i j) = ∑ u ∈ range (32 + 32 + (32 + 32)), d (Fin.ofNat 128 u) (ix2 i j) := by
    rw [← Fin.sum_univ_eq_sum_range (fun u => d (Fin.ofNat 128 u) (ix2 i j))]
    exact sum_congr rfl fun n _ => by
      congr 1; exact Fin.ext (Nat.mod_eq_of_lt n.isLt).symm
  rw [whole, sum_range_add, sum_range_add, sum_range_add]
  pointwise [total]
  simp only [sumTo_at, Nat.zero_add]
  rfl

/-- The squared mean read at an index. -/
theorem meanSq_at (d : Fin 128 → FVec Ideal S512x512 .bf16) (i j : Fin 512) :
    meanSq d (ix2 i j) = (∑ n, d n (ix2 i j)) * ((1 / 128 : ℝ) : EReal) * ((∑ n, d n (ix2 i j)) * ((1 / 128 : ℝ) : EReal)) := by
  unfold meanSq
  pointwise
  rw [total_at, Scalar.inv_points]

/-- The loss of a row from its logits `y`, the squared scale and the weight. -/
def loss (y : Fin 512 → EReal) (nv w : EReal) (i : Fin 512) : EReal :=
  (Ideal.log (∑ x, Ideal.exp (y x - univ.fold max ⊥ fun x => y x)) + (univ.fold max ⊥ fun x => y x) - y i)
    * (((2 : ℝ) : EReal) * nv) * w

/-- The end of the body read at a row. -/
theorem finish_at (nv : Ideal .f32) (q : Vec Ideal S512x512 .f32) (w : Vec Ideal S512x1 .f32) (i : Fin 512) :
    finish nv q w (ix2 i 0)
      = loss (fun x => q (ix2 i x) * Ideal.div ((-(1 / 2) : ℝ) : EReal) nv) nv (w (ix2 i 0)) i := by
  unfold finish
  pointwise [k0_pay1, k0_pay88, k0_pay89]
  rw [Scalar.diag_sum, Scalar.neg_half, Scalar.two, Scalar.neg_inf]
  rfl

/-- The kernel's result read at a row. -/
theorem result_at (pred gt : Vec Ideal S512x128x3 .f32) (w : Vec Ideal S512 .f32) (σ : Vec Ideal S_ .f32) (i : Fin 512) :
    result pred gt w σ (ix1 i)
      = loss (fun x => meanSq (fun n => Body.dist (slab (left pred) n) (slab (right gt) n)) (ix2 i x)
          * Ideal.div ((-(1 / 2) : ℝ) : EReal) (σ ix0 * σ ix0)) (σ ix0 * σ ix0) (w (ix1 i)) i := by
  pointwise [result]
  rw [finish_at]
  pointwise

/-- The kernel's result at a row, for real coordinates whose pairwise squared distances reach the floor. -/
theorem result_real (p g : Fin 512 → Fin 128 → Fin 3 → ℝ) (pred gt : Vec Ideal S512x128x3 .f32)
    (hp : ∀ i n k, pred (ix3 i n k) = ((p i n k : ℝ) : EReal)) (hg : ∀ i n k, gt (ix3 i n k) = ((g i n k : ℝ) : EReal))
    (far : ∀ i j n, Scalar.floor ≤ ∑ k, (g j n k - p i n k) * (g j n k - p i n k))
    (w : Vec Ideal S512 .f32) (σ : Vec Ideal S_ .f32) (i : Fin 512) :
    result pred gt w σ (ix1 i)
      = loss (fun x => (((∑ n, √(∑ k, (g x n k - p i n k) * (g x n k - p i n k))) / 128
            * ((∑ n, √(∑ k, (g x n k - p i n k) * (g x n k - p i n k))) / 128) : ℝ) : EReal)
          * Ideal.div ((-(1 / 2) : ℝ) : EReal) (σ ix0 * σ ix0)) (σ ix0 * σ ix0) (w (ix1 i)) i := by
  rw [result_at]
  congr 1
  funext x
  congr 1
  rw [meanSq_at]
  simp only [dist_at, squared_real p g pred gt hp hg, Scalar.root_of_floor (far _ _ _)]
  rw [Scalar.coe_sum, ← EReal.coe_mul, ← EReal.coe_mul]
  congr 1
  ring

end Cert.KernelIdeal.Val

end
-- ==== Proof.ReferenceValue.lean ====
module

public import proofs.«01_k».proof.Proof.Gen.ReferenceIdeal.Run
public import proofs.«01_k».proof.Proof.Scalar

/-! The reference's result read at an index. -/

@[expose] public section

set_option maxRecDepth 16384

noncomputable section

namespace Cert.ReferenceIdeal.Val

open Idealize.ShloMosaic Idealize.ShloMosaic.TcCoe Idealize.ShloMosaic.Tactic Idealize.SL.Sem Finset
open Cert.ReferenceIdeal.Gen Cert.ReferenceIdeal.Value

variable {F : FTy → Type} [FloatOps F]

/-- The differences of every pair of points, one of each set. -/
def diff (pred gt : Vec F S512x128x3 .f32) : Vec F S512x512x128x3 .f32 :=
  subf
    (broadcastInDim S512x512x128x3 ![0, 1, 2, 3] bcast_S1x512x128x3_S512x512x128x3_0_1_2_3
      (broadcastInDim S1x512x128x3 ![1, 2, 3] bcast_S512x128x3_S1x512x128x3_1_2_3 gt))
    (broadcastInDim S512x512x128x3 ![0, 1, 2, 3] bcast_S512x1x128x3_S512x512x128x3_0_1_2_3
      (broadcastInDim S512x1x128x3 ![0, 2, 3] bcast_S512x128x3_S512x1x128x3_0_2_3 pred))

/-- The distances of every pair. -/
def dists (pred gt : Vec F S512x128x3 .f32) : Vec F S512x512x128 .f32 :=
  Host.sqrt (Host.reduceAdd (mulf (diff pred gt) (diff pred gt)) (constant S_ .f32 0x00000000#32)
    reducesTo_S512x512x128x3_S512x512x128_d3 h_S_)

/-- The mean distances. -/
def means (d : Vec F S512x512x128 .f32) : Vec F S512x512 .f32 :=
  Host.divf (Host.reduceAdd d (constant S_ .f32 0x00000000#32) reducesTo_S512x512x128_S512x512_d2 h_S_)
    (broadcastInDim S512x512 ![] bcast_S_S512x512 (constant S_ .f32 0x43000000#32))

/-- The logits: minus half the squared mean distance, over the squared scale. -/
def logits (n : Vec F S512x512 .f32) (σ : Vec F S_ .f32) : Vec F S512x512 .f32 :=
  Host.divf (mulf (broadcastInDim S512x512 ![] bcast_S_S512x512 (constant S_ .f32 0xBF000000#32)) (mulf n n))
    (broadcastInDim S512x512 ![] bcast_S_S512x512 (mulf σ σ))

/-- The logits less their row's maximum. -/
def shifted (x : Vec F S512x512 .f32) : Vec F S512x512 .f32 :=
  subf x (broadcastInDim S512x512 ![0, 1] bcast_S512x1_S512x512_0_1
    (broadcastInDim S512x1 ![0] bcast_S512_S512x1_0
      (maximumf (broadcastInDim S512 ![] bcast_S_S512 (constant S_ .f32 0xFF800000#32))
        (Host.reduce FloatOps.maximumf x (constant S_ .f32 0xFF800000#32) reducesTo_S512x512_S512_d1 h_S_))))

/-- The logarithms of the row-wise softmax, from the shifted logits. -/
def logProbs (x : Vec F S512x512 .f32) : Vec F S512x512 .f32 :=
  subf x (broadcastInDim S512x512 ![0, 1] bcast_S512x1_S512x512_0_1
    (Host.log (broadcastInDim S512x1 ![0] bcast_S512_S512x1_0
      (Host.reduceAdd (Host.exp x) (constant S_ .f32 0x00000000#32) reducesTo_S512x512_S512_d1 h_S_))))

/-- The row number of each row, as a column. -/
def rows : Vec F S512x1 .i32 := broadcastInDim S512x1 ![0] bcast_S512_S512x1_0 (iotaInDim S512 32 0)

/-- A matrix's diagonal. -/
def diag (x : Vec F S512x512 .f32) : Vec F S512 .f32 :=
  Host.gather gather_S512x512_S512x2_S512_n_01_n_n_01_1_11 x
    (concatenate S512x2 1 [⟨S512x1, rows (F := F)⟩, ⟨S512x1, rows (F := F)⟩] concatenates_S512x1_S512x1_S512x2_d1)

/-- The reference's result of its four arguments. -/
def result (pred gt : Vec F S512x128x3 .f32) (w : Vec F S512 .f32) (σ : Vec F S_ .f32) : Vec F S512 .f32 :=
  mulf (mulf (Host.negf (diag (logProbs (shifted (logits (means (dists pred gt)) σ)))))
    (broadcastInDim S512 ![] bcast_S_S512 (mulf (constant S_ .f32 0x40000000#32) (mulf σ σ)))) w

set_option maxRecDepth 65536 in
/-- The run's result is that term. -/
theorem res_eq (m : (ℓ : Loc nD τ sig) → Buf (Elt F) ℓ) (c : Dev nD) :
    res_main_v27 m c = result (m ((c.tc : Thread nD τ).loc main_arg0)) (m ((c.tc : Thread nD τ).loc main_arg1))
      (m ((c.tc : Thread nD τ).loc main_arg2)) (m ((c.tc : Thread nD τ).loc main_arg3)) := rfl

/-- The two columns of row numbers, side by side. -/
def cells : Vec F S512x2 .i32 :=
  concatenate S512x2 1 [⟨S512x1, rows (F := F)⟩, ⟨S512x1, rows (F := F)⟩] concatenates_S512x1_S512x1_S512x2_d1

/-- Each entry of the table of cells is its row's number. -/
theorem cells_at (i : Fin 512) (k : Fin 2) : cells (F := F) (ix2 i k) = BitVec.ofNat 32 i := by
  pointwise [cells, rows]
  fin_vals k with hk <;> simp [hk]

/-- The start of a gathered cell on either axis is its row's number. -/
theorem start_at (i : Fin 512) (a : Fin 2) :
    (gather_S512x512_S512x2_S512_n_01_n_n_01_1_11).start (ix1 i) (cells (F := F)) a = i.val := by
  have cell (k : Fin 2) (h : _) : (gather_S512x512_S512x2_S512_n_01_n_n_01_1_11).siIdx (ix1 i) ⟨k.val, h⟩ = ix2 i k := by
    funext b; refine Fin.ext ?_
    match b with
    | ⟨0, _⟩ => rfl
    | ⟨1, _⟩ => rfl
  have word : (BitVec.ofNat 32 i.val).toInt.toNat = i.val := by
    have := i.isLt
    rw [BitVec.toInt_eq_toNat_of_lt] <;> simp only [BitVec.toNat_ofNat] <;> omega
  have low : min i.val (512 - 1) = i.val := by have := i.isLt; omega
  unfold GatherDims.start
  match a with
  | ⟨0, _⟩ =>
    refine (dif_pos (show _ from (by decide : (0 : Fin 2) ∈ [(0 : Fin 2), 1]))).trans ?_
    refine (congrArg (fun x => min (cells (F := F) x).toInt.toNat (512 - 1)) (cell 0 _)).trans ?_
    rw [cells_at, word, low]
  | ⟨1, _⟩ =>
    refine (dif_pos (show _ from (by decide : (1 : Fin 2) ∈ [(0 : Fin 2), 1]))).trans ?_
    refine (congrArg (fun x => min (cells (F := F) x).toInt.toNat (512 - 1)) (cell 1 _)).trans ?_
    rw [cells_at, word, low]

/-- The diagonal read at a row. -/
theorem diag_at (x : Vec F S512x512 .f32) (i : Fin 512) : diag x (ix1 i) = x (ix2 i i) := by
  unfold diag Host.gather
  refine congrArg x ?_
  funext a
  refine Fin.ext ?_
  show (gather_S512x512_S512x2_S512_n_01_n_n_01_1_11).start (ix1 i) (cells (F := F)) a
    + (gather_S512x512_S512x2_S512_n_01_n_n_01_1_11).batchCoord (ix1 i) a
    + (gather_S512x512_S512x2_S512_n_01_n_n_01_1_11).offCoord (ix1 i) a = _
  rw [start_at, GatherDims.batchCoord_eq_zero _ _ _ List.not_mem_nil,
    GatherDims.offCoord_eq_zero _ _ _ (fun h => ((GatherDims.mem_sKept _ _).mp h).1
      (show a ∈ [(0 : Fin 2), 1] by revert a; decide))]
  match a with
  | ⟨0, _⟩ => rfl
  | ⟨1, _⟩ => rfl

/-- The distance between two points. -/
theorem dists_at (p g : Vec Ideal S512x128x3 .f32) (i j : Fin 512) (n : Fin 128) :
    dists p g (ix3 i j n) = Ideal.sqrt (∑ k, (g (ix3 j n k) - p (ix3 i n k)) * (g (ix3 j n k) - p (ix3 i n k))) := by
  pointwise [dists, diff]

/-- The mean distance of two sets. -/
theorem means_at (d : Vec Ideal S512x512x128 .f32) (i j : Fin 512) :
    means d (ix2 i j) = Ideal.div (∑ n, d (ix3 i j n)) ((128 : ℝ) : EReal) := by
  pointwise [means]
  rw [Scalar.points]

/-- One logit. -/
theorem logits_at (n : Vec Ideal S512x512 .f32) (σ : Vec Ideal S_ .f32) (i j : Fin 512) :
    logits n σ (ix2 i j)
      = Ideal.div (((-(1 / 2) : ℝ) : EReal) * (n (ix2 i j) * n (ix2 i j))) (σ ix0 * σ ix0) := by
  pointwise [logits]
  rw [Scalar.neg_half]

/-- The negated log-softmax of a row `y` at one entry, times twice the squared scale and the weight. -/
def loss (y : Fin 512 → EReal) (nv w : EReal) (i : Fin 512) : EReal :=
  -(y i - max ⊥ (univ.fold max ⊥ fun x => y x) - Ideal.log (∑ x, Ideal.exp (y x - max ⊥ (univ.fold max ⊥ fun x => y x))))
    * (((2 : ℝ) : EReal) * nv) * w

/-- The reference's result read at a row. -/
theorem result_at (pred gt : Vec Ideal S512x128x3 .f32) (w : Vec Ideal S512 .f32) (σ : Vec Ideal S_ .f32) (i : Fin 512) :
    result pred gt w σ (ix1 i)
      = loss (fun x => logits (means (dists pred gt)) σ (ix2 i x)) (σ ix0 * σ ix0) (w (ix1 i)) i := by
  pointwise [result]
  rw [diag_at]
  pointwise [logProbs, shifted]
  rw [Scalar.two, Scalar.neg_inf]
  rfl

/-- The reference's result at a row, for real coordinates. -/
theorem result_real (p g : Fin 512 → Fin 128 → Fin 3 → ℝ) (pred gt : Vec Ideal S512x128x3 .f32)
    (hp : ∀ i n k, pred (ix3 i n k) = ((p i n k : ℝ) : EReal)) (hg : ∀ i n k, gt (ix3 i n k) = ((g i n k : ℝ) : EReal))
    (w : Vec Ideal S512 .f32) (σ : Vec Ideal S_ .f32) (i : Fin 512) :
    result pred gt w σ (ix1 i)
      = loss (fun x => Ideal.div (((-(1 / 2)
            * ((∑ n, √(∑ k, (g x n k - p i n k) * (g x n k - p i n k))) / 128
              * ((∑ n, √(∑ k, (g x n k - p i n k) * (g x n k - p i n k))) / 128)) : ℝ) : EReal)) (σ ix0 * σ ix0))
          (σ ix0 * σ ix0) (w (ix1 i)) i := by
  have root (a b : Fin 512) (n : Fin 128) :
      Ideal.sqrt ((∑ k, (g b n k - p a n k) * (g b n k - p a n k) : ℝ) : EReal)
        = ((√(∑ k, (g b n k - p a n k) * (g b n k - p a n k)) : ℝ) : EReal) := by
    rw [Ideal.sqrt_coe, if_neg (not_lt.mpr (sum_nonneg fun k _ => mul_self_nonneg _))]
  rw [result_at]
  simp only [logits_at, means_at, dists_at, hp, hg, ← EReal.coe_sub, ← EReal.coe_mul, Scalar.coe_sum, root,
    Scalar.div_real _ (by norm_num : (128 : ℝ) ≠ 0)]

end Cert.ReferenceIdeal.Val

end
-- ==== Proof.Equation.lean ====
module

public import proofs.«01_k».proof.Proof.KernelIdealAt
public import proofs.«01_k».proof.Proof.ReferenceValue
public import proofs.«01_k».proof.Proof.Gen.Pre_apart

/-! The kernel's result equals the reference's, over the extended reals. -/

@[expose] public section

set_option maxRecDepth 16384

noncomputable section

namespace Cert.Equation

open Idealize.ShloMosaic Idealize.ShloMosaic.TcCoe Idealize.ShloMosaic.Tactic Finset

/-- The two forms of a row's loss agree on squared mean distances that are real. -/
theorem loss_eq (q : Fin 512 → ℝ) (σ w : EReal) (i : Fin 512) :
    KernelIdeal.Val.loss (fun x => ((q x : ℝ) : EReal) * Ideal.div ((-(1 / 2) : ℝ) : EReal) (σ * σ)) (σ * σ) w i
      = ReferenceIdeal.Val.loss (fun x => Ideal.div ((-(1 / 2) * q x : ℝ) : EReal) (σ * σ)) (σ * σ) w i := by
  have key (r : Fin 512 → ℝ) : KernelIdeal.Val.loss (fun x => (r x : EReal)) (σ * σ) w i
      = ReferenceIdeal.Val.loss (fun x => (r x : EReal)) (σ * σ) w i := by
    unfold KernelIdeal.Val.loss ReferenceIdeal.Val.loss
    rw [Scalar.row]
  have far : σ * σ = ⊤ → KernelIdeal.Val.loss (fun x => ((q x : ℝ) : EReal) * Ideal.div ((-(1 / 2) : ℝ) : EReal) (σ * σ)) (σ * σ) w i
      = ReferenceIdeal.Val.loss (fun x => Ideal.div ((-(1 / 2) * q x : ℝ) : EReal) (σ * σ)) (σ * σ) w i := by
    intro h
    have := key fun _ => 0
    rw [h] at this ⊢
    simpa only [Scalar.div_top, mul_zero, EReal.coe_zero] using this
  induction σ with
  | bot => exact far rfl
  | top => exact far rfl
  | coe s =>
    rw [← EReal.coe_mul] at key ⊢
    by_cases h : s * s = 0
    · rw [h]
      unfold KernelIdeal.Val.loss ReferenceIdeal.Val.loss
      simp only [EReal.coe_zero, mul_zero, zero_mul]
    · have := key fun x => -(1 / 2) * q x / (s * s)
      simp only [Scalar.div_real _ h, ← EReal.coe_mul]
      rw [← this]
      refine congrArg (fun f => KernelIdeal.Val.loss f ((s * s : ℝ) : EReal) w i) (funext fun x => ?_)
      exact congrArg Real.toEReal (by ring)

/-- An extended real whose absolute value is below `⊤` is a real. -/
theorem real_of_abs_lt {x : EReal} (h : BitVec.ofBool (decide (FloatOps.absf (F := Ideal) (φ := .f32) x < Ideal.ofBits .f32 0x7F800000#32)) = 1#1) :
    ((x.toReal : ℝ) : EReal) = x := by
  rw [Scalar.pos_inf] at h
  refine EReal.coe_toReal ?_ ?_ <;> rintro rfl <;> revert h <;> simp [FloatOps.absf]

/-- Where every component of the precondition is one, the coordinates are real and the squared distances reach the
    floor. -/
theorem real_of_apart (pred gt : Vec Ideal Cert.KernelIdeal.S512x128x3 .f32) (w : Vec Ideal Cert.KernelIdeal.S512 .f32)
    (σ : Vec Ideal Cert.KernelIdeal.S_ .f32)
    (h₁ : (Cert.Pre_apart.fn (F := Ideal) pred gt w σ).1 = fun _ => 1#1)
    (h₂ : (Cert.Pre_apart.fn (F := Ideal) pred gt w σ).2.1 = fun _ => 1#1)
    (h₃ : (Cert.Pre_apart.fn (F := Ideal) pred gt w σ).2.2 = fun _ => 1#1) :
    ∃ p g : Fin 512 → Fin 128 → Fin 3 → ℝ,
      (∀ i n k, pred (ix3 i n k) = ((p i n k : ℝ) : EReal)) ∧ (∀ i n k, gt (ix3 i n k) = ((g i n k : ℝ) : EReal))
      ∧ ∀ i j n, Scalar.floor ≤ ∑ k, (g j n k - p i n k) * (g j n k - p i n k) := by
  have hp (x : KernelIdeal.S512x128x3.Idx) : (((pred x).toReal : ℝ) : EReal) = pred x :=
    real_of_abs_lt (congrFun h₁ x)
  have hg (x : KernelIdeal.S512x128x3.Idx) : (((gt x).toReal : ℝ) : EReal) = gt x :=
    real_of_abs_lt (congrFun h₂ x)
  refine ⟨fun i n k => (pred (ix3 i n k)).toReal, fun i n k => (gt (ix3 i n k)).toReal, fun i n k => (hp _).symm,
    fun i n k => (hg _).symm, fun i j n => ?_⟩
  have b := congrFun h₃ (ix3 i j n)
  pointwise [Cert.Pre_apart.fn] at b
  rw [Scalar.floor_pre] at b
  have le : (Scalar.floor : EReal) ≤ ∑ k, (gt (ix3 j n k) - pred (ix3 i n k)) * (gt (ix3 j n k) - pred (ix3 i n k)) := by
    by_contra h
    simp [h] at b
  have e (k : Fin 3) : (gt (ix3 j n k) - pred (ix3 i n k)) * (gt (ix3 j n k) - pred (ix3 i n k))
      = ((((gt (ix3 j n k)).toReal - (pred (ix3 i n k)).toReal)
          * ((gt (ix3 j n k)).toReal - (pred (ix3 i n k)).toReal) : ℝ) : EReal) := by
    rw [EReal.coe_mul, EReal.coe_sub, hp, hg]
  rw [sum_congr rfl fun k _ => e k, Scalar.coe_sum] at le
  exact EReal.coe_le_coe_iff.mp le

/-- The kernel's result of arguments that satisfy the precondition is the reference's. -/
theorem result_eq (pred gt : Vec Ideal Cert.KernelIdeal.S512x128x3 .f32) (w : Vec Ideal Cert.KernelIdeal.S512 .f32)
    (σ : Vec Ideal Cert.KernelIdeal.S_ .f32)
    (h₁ : (Cert.Pre_apart.fn (F := Ideal) pred gt w σ).1 = fun _ => 1#1)
    (h₂ : (Cert.Pre_apart.fn (F := Ideal) pred gt w σ).2.1 = fun _ => 1#1)
    (h₃ : (Cert.Pre_apart.fn (F := Ideal) pred gt w σ).2.2 = fun _ => 1#1) :
    KernelIdeal.Val.result pred gt w σ = ReferenceIdeal.Val.result pred gt w σ := by
  obtain ⟨p, g, hp, hg, far⟩ := real_of_apart pred gt w σ h₁ h₂ h₃
  funext x
  obtain ⟨i, rfl⟩ : ∃ i : Fin 512, x = ix1 i := ⟨x 0, eq_ix1 x⟩
  rw [KernelIdeal.Val.result_real p g pred gt hp hg far, ReferenceIdeal.Val.result_real p g pred gt hp hg]
  exact loss_eq _ _ _ _

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_apart
public import proofs.«01_k».proof.Proof.Gen.Kernel.Skeleton
public import proofs.«01_k».proof.Proof.Gen.Kernel.Launch
public import proofs.«01_k».proof.Proof.Gen.Kernel.Points
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelRun
public import proofs.«01_k».proof.Proof.KernelIdealRun
public import proofs.«01_k».proof.Proof.Gen.ReferenceIdeal.Run
public import proofs.«01_k».proof.Proof.Equation
public import Idealize.ShloMosaic.Adequacy
public import Idealize.ShloMosaic.Init
public import Idealize.ShloMosaic.Lib.Quiescent

/-! The claims of this certificate, each from the modules that prove it. -/

@[expose] public section

noncomputable section

namespace Cert.Proof

open Idealize.ShloMosaic Idealize.SL.Sem

/-- The kernel's frame: it runs, its arguments end unchanged, every counter ends at zero. -/
theorem frame_kernel : Cert.quiescent_Kernel := fun m g _ => Cert.Kernel.Run.frame m g

/-- The idealized kernel's frame. -/
theorem frame_ideal : Cert.quiescent_KernelIdeal := fun m g _ => Cert.KernelIdeal.Run.frame m g

/-- The reference's run read at its arguments; it declares no semaphore, so every counter is zero. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems (by decide) r.2⟩)
    (Cert.ReferenceIdeal.Value.run (F := Ideal) m g)

/-- The reference's frame. -/
theorem frame_reference : Cert.quiescent_ReferenceIdeal := fun m g _ => reference_runs m g

/-- The idealized kernel's frame under the precondition, which it does not use. -/
theorem frame_ideal_apart : Cert.quiescent_KernelIdeal_pre_apart := fun m g _ => Cert.KernelIdeal.Run.frame m g

/-- The reference's frame under the precondition, which it does not use. -/
theorem frame_reference_apart : Cert.quiescent_ReferenceIdeal_pre_apart := fun m g _ => reference_runs m g

/-- The value claim: of arguments that satisfy the precondition the idealized kernel's one result, all 512 entries, is
    the reference's, and both programs leave their arguments as they were. -/
theorem algebraic : Cert.algebraic_KernelIdeal_ReferenceIdeal_pre_apart := fun m g m' g' pre agree => by
  refine ⟨fun c => Cert.KernelIdeal.Val.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run _ _ _).mono (fun r h c => ⟨Cert.KernelIdeal.Val.post_result m h c,
      Cert.KernelIdeal.Run.post_arg m h c _ (by simp), Cert.KernelIdeal.Run.post_arg m h c _ (by simp),
      Cert.KernelIdeal.Run.post_arg m h c _ (by simp), Cert.KernelIdeal.Run.post_arg m h c _ (by simp)⟩)
      (Cert.KernelIdeal.Run.run (F := Ideal) m g)
  · refine (θ_run _ _ _).mono (fun r h c => ⟨(h c).1.trans ?_, (h c).2⟩) (Cert.ReferenceIdeal.Value.run (F := Ideal) m' g')
    obtain ⟨e₀, e₁, e₂, e₃⟩ := agree c
    obtain ⟨h₁, h₂, h₃⟩ := pre c
    rw [Cert.ReferenceIdeal.Val.res_eq, e₀, e₁, e₂, e₃]
    exact (Cert.Equation.result_eq _ _ _ _ h₁ h₂ h₃).symm

/-- Everything the certificate claims. -/
theorem claim : Cert.Claim :=
  ⟨Cert.Kernel.Gen.facts, Cert.KernelIdeal.Gen.facts, Cert.ReferenceIdeal.Gen.facts, Cert.Pre_apart.Gen.facts,
    frame_kernel, frame_ideal, frame_ideal_apart, frame_reference, frame_reference_apart, trivial, algebraic⟩

end Cert.Proof

end
